-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "ts" .f32 0x3C159095#32 ((Real.sqrt (1006633 / 12079595520) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536 : Shape := ⟨1, ![65536]⟩
abbrev S1024 : Shape := ⟨1, ![1024]⟩
abbrev S1x65536 : Shape := ⟨2, ![1, 65536]⟩
abbrev S1024x1 : Shape := ⟨2, ![1024, 1]⟩
abbrev S_ : Shape := ⟨0, ![]⟩
abbrev S1x1024 : Shape := ⟨2, ![1, 1024]⟩
abbrev S8x1024 : Shape := ⟨2, ![8, 1024]⟩
abbrev S8x1 : Shape := ⟨2, ![8, 1]⟩

abbrev nBuf : Space → Nat
  | .hbm => 25
  | .vmem => 12
  | .smem => 0
  | _ => 0

abbrev bufTy : (tb : Table) → Fin (tcTables nBuf tb) → BufTy
  | .hbm, ⟨0, _⟩ => ⟨S65536, .f32⟩
  | .hbm, ⟨1, _⟩ => ⟨S1024, .f32⟩
  | .hbm, ⟨2, _⟩ => ⟨S65536, .f32⟩
  | .hbm, ⟨3, _⟩ => ⟨S1024, .f32⟩
  | .hbm, ⟨4, _⟩ => ⟨S1x65536, .f32⟩
  | .hbm, ⟨5, _⟩ => ⟨S1x65536, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024, .f32⟩
  | .hbm, ⟨20, _⟩ => ⟨S1024x1, .f32⟩
  | .hbm, ⟨21, _⟩ => ⟨S1x65536, .i32⟩
  | .hbm, ⟨22, _⟩ => ⟨S1x65536, .f32⟩
  | .hbm, ⟨23, _⟩ => ⟨S65536, .i32⟩
  | .hbm, ⟨24, _⟩ => ⟨S65536, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1024, .i32⟩
  | .local _ .vmem, ⟨9, _⟩ => ⟨S1x1024, .i32⟩
  | .local _ .vmem, ⟨10, _⟩ => ⟨S1x1024, .f32⟩
  | .local _ .vmem, ⟨11, _⟩ => ⟨S1x1024, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "ts" => some ((Real.sqrt (1006633 / 12079595520) : ℝ) : EReal)
  | _ => none
-- ==== ReferenceIdeal.lean ====
abbrev S65536 : Shape := ⟨1, ![65536]⟩
abbrev S1024 : Shape := ⟨1, ![1024]⟩
abbrev S65536x1 : Shape := ⟨2, ![65536, 1]⟩
abbrev S1x1024 : Shape := ⟨2, ![1, 1024]⟩
abbrev S65536x1024 : Shape := ⟨2, ![65536, 1024]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S65536, .f32⟩
  | .hbm, ⟨1, _⟩ => ⟨S1024, .f32⟩
  | .hbm, ⟨2, _⟩ => ⟨S65536, .f32⟩
  | .hbm, ⟨3, _⟩ => ⟨S1024, .f32⟩
  | .hbm, ⟨4, _⟩ => ⟨S65536x1, .f32⟩
  | .hbm, ⟨5, _⟩ => ⟨S1x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S65536x1, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .i32⟩
  | .hbm, ⟨40, _⟩ => ⟨S_, .f32⟩
  | .hbm, ⟨41, _⟩ => ⟨S_, .i32⟩
  | .hbm, ⟨42, _⟩ => ⟨S65536, .f32⟩
  | .hbm, ⟨43, _⟩ => ⟨S65536, .i32⟩
  | .hbm, ⟨44, _⟩ => ⟨S_, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .i1⟩
  | .hbm, ⟨49, _⟩ => ⟨S_, .i32⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S_, .f32⟩
  | .hbm, ⟨61, _⟩ => ⟨S_, .f32⟩
  | .hbm, ⟨62, _⟩ => ⟨S65536, .f32⟩
  | .hbm, ⟨63, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.Choice.lean ====
/-
  The choice of a camera, free of any program: the least of 1024 costs and the first camera that has it, computed in
  three ways. `track` goes down one row of the slabs and keeps what is strictly smaller; eight such rows are joined by the
  least of their proposals; `pick` is the reference's fold over (cost, index) pairs in any order.
-/
module

public import Mathlib.Data.EReal.Operations
public import Mathlib.Data.BitVec
public import Mathlib.Order.ConditionallyCompleteLattice.Finset

@[expose] public section

noncomputable section

namespace Cert.Proof.Choice

/-- `j` is the first camera whose cost is `m`. -/
def First (C : Fin 1024 → EReal) (m : EReal) (j : Fin 1024) : Prop := C j = m ∧ ∀ i, C i = m → j ≤ i

/-- Some camera is the first with the least cost. -/
theorem exists_first (C : Fin 1024 → EReal) : ∃ j, First C (⨅ i, C i) j := by
  obtain ⟨i, hi⟩ := exists_eq_ciInf_of_finite (f := C)
  have hne : (Finset.univ.filter fun i => C i = ⨅ i, C i).Nonempty := ⟨i, by simp [hi]⟩
  refine ⟨_, (Finset.mem_filter.mp (Finset.min'_mem _ hne)).2, fun i hi => Finset.min'_le _ _ (by simp [hi])⟩

/-- A lower bound that is reached is the infimum. -/
theorem eq_iInf {ι : Type} {C : ι → EReal} {m : EReal} (h : ∀ i, m ≤ C i) (h' : ∃ i, C i = m) : m = ⨅ i, C i := by
  obtain ⟨i, hi⟩ := h'
  exact le_antisymm (le_iInf h) (hi ▸ iInf_le C i)

/-! ## One row of the slabs -/

/-- The running minimum over the first `n` slabs' costs `f`, from +∞, and the slab that reached it. -/
def track (f : ℕ → EReal) : ℕ → EReal × ℕ
  | 0 => (⊤, 0)
  | n + 1 => if f n < (track f n).1 then (f n, n) else track f n

theorem track_le (f : ℕ → EReal) : ∀ n s, s < n → (track f n).1 ≤ f s
  | n + 1, s, h => by
    rw [track]
    rcases Nat.lt_succ_iff_lt_or_eq.mp h with h | rfl
    · have ih := track_le f n s h
      split_ifs with hc
      · exact hc.le.trans ih
      · exact ih
    · split_ifs with hc
      · exact le_refl _
      · exact not_lt.mp hc

theorem track_first (f : ℕ → EReal) : ∀ n, (track f n).1 < ⊤ →
    (track f n).2 < n ∧ f (track f n).2 = (track f n).1 ∧ ∀ s < (track f n).2, (track f n).1 < f s
  | 0, h => absurd h (lt_irrefl _)
  | n + 1, h => by
    rw [track] at h ⊢
    split_ifs with hc
    · exact ⟨Nat.lt_succ_self n, rfl, fun s hs => hc.trans_le (track_le f n s hs)⟩
    · rw [if_neg hc] at h
      obtain ⟨h1, h2, h3⟩ := track_first f n h
      exact ⟨h1.trans (Nat.lt_succ_self n), h2, h3⟩

/-! ## Eight rows joined -/

/-- The camera in row `r` of slab `s` (the slab modulo the 128 there are). -/
def camera (s : ℕ) (r : Fin 8) : Fin 1024 := ⟨8 * (s % 128) + r, by omega⟩

/-- Row `r`'s costs, slab by slab. -/
def row (C : Fin 1024 → EReal) (r : Fin 8) (s : ℕ) : EReal := C (camera s r)

/-- The eight rows' final running minima. -/
def rowMin (C : Fin 1024 → EReal) (r : Fin 8) : EReal := (track (row C r) 128).1

/-- Every camera is in some row of some slab. -/
theorem camera_div_mod (j : Fin 1024) : camera (j / 8) ⟨j % 8, Nat.mod_lt _ (by norm_num)⟩ = j :=
  Fin.ext (show 8 * ((j : ℕ) / 8 % 128) + (j : ℕ) % 8 = j by omega)

theorem iInf_le_rowMin (C : Fin 1024 → EReal) (r : Fin 8) : ⨅ j, C j ≤ rowMin C r := by
  by_cases h : rowMin C r < ⊤
  · rw [rowMin, ← (track_first _ _ h).2.1]
    exact iInf_le C _
  · rw [not_lt_top_iff.mp h]
    exact le_top

/-- The least of the rows' minima is the least cost. -/
theorem iInf_rowMin (C : Fin 1024 → EReal) : ⨅ r, rowMin C r = ⨅ j, C j := by
  refine le_antisymm (le_iInf fun j => ?_) (le_iInf (iInf_le_rowMin C))
  refine (iInf_le _ ⟨j % 8, Nat.mod_lt _ (by norm_num)⟩).trans ?_
  have h := track_le (row C ⟨j % 8, Nat.mod_lt _ (by norm_num)⟩) 128 (j / 8) (by omega)
  rwa [row, camera_div_mod] at h

/-- A row's proposal: eight times its slab plus the row where it holds the least cost `m`, else 2048. -/
def propose (C : Fin 1024 → EReal) (m : EReal) (r : Fin 8) : EReal :=
  if rowMin C r = m then (((8 * (track (row C r) 128).2 + r : ℕ) : ℝ) : EReal) else ((2048 : ℝ) : EReal)

/-- The least proposal is the first camera with the least cost, when that is not +∞. -/
theorem iInf_propose (C : Fin 1024 → EReal) {j : Fin 1024} (hj : First C (⨅ i, C i) j) (hm : ⨅ i, C i < ⊤) :
    ⨅ r, propose C (⨅ i, C i) r = (((j : ℕ) : ℝ) : EReal) := by
  symm
  refine eq_iInf (fun r => ?_) ⟨⟨j % 8, Nat.mod_lt _ (by norm_num)⟩, ?_⟩
  · rw [propose]
    split_ifs with h
    · obtain ⟨h1, h2, -⟩ := track_first (row C r) 128 (by rw [← rowMin, h]; exact hm)
      have h4 := hj.2 _ (h2.trans h)
      have h5 : (j : ℕ) ≤ 8 * ((track (row C r) 128).2 % 128) + r := h4
      rw [Nat.mod_eq_of_lt h1] at h5
      exact_mod_cast h5
    · have := j.isLt
      exact_mod_cast (by omega : (j : ℕ) ≤ 2048)
  · set r : Fin 8 := ⟨j % 8, Nat.mod_lt _ (by norm_num)⟩ with hr
    have hc : row C r (j / 8) = ⨅ i, C i := by rw [row, hr, camera_div_mod]; exact hj.1
    have hmin : rowMin C r = ⨅ i, C i :=
      le_antisymm ((track_le (row C r) 128 (j / 8) (by omega)).trans hc.le) (iInf_le_rowMin C r)
    obtain ⟨h1, h2, h3⟩ := track_first (row C r) 128 (by rw [← rowMin, hmin]; exact hm)
    rw [← rowMin, hmin] at h2 h3
    have h4 : (j : ℕ) ≤ 8 * ((track (row C r) 128).2 % 128) + j % 8 := hj.2 _ h2
    rw [Nat.mod_eq_of_lt h1] at h4
    have h5 : ¬ (j : ℕ) / 8 < (track (row C r) 128).2 := fun hlt => absurd hc (h3 _ hlt).ne'
    rw [propose, if_pos hmin]
    have h6 : 8 * (track (row C r) 128).2 + (r : ℕ) = j := by
      show 8 * (track (row C r) 128).2 + (j : ℕ) % 8 = j
      omega
    rw [h6]

/-! ## A fold over pairs -/

/-- One step of the fold: the smaller cost, on equal costs the smaller index (read signed). -/
def pick (a b : EReal × BitVec 32) : EReal × BitVec 32 :=
  (if a.1 < b.1 then a.1 else b.1, if a.1 < b.1 ∨ (a.1 = b.1 ∧ a.2.toInt < b.2.toInt) then a.2 else b.2)

/-- The fold from (+∞, 0) is a lower bound of the costs; where it is not +∞ it is one of the pairs, the first with that cost. -/
theorem foldl_pick (L : List (EReal × BitVec 32)) :
    (∀ p ∈ L, (L.foldl pick (⊤, 0#32)).1 ≤ p.1)
      ∧ ((L.foldl pick (⊤, 0#32)).1 < ⊤ → L.foldl pick (⊤, 0#32) ∈ L
        ∧ ∀ p ∈ L, p.1 = (L.foldl pick (⊤, 0#32)).1 → (L.foldl pick (⊤, 0#32)).2.toInt ≤ p.2.toInt) := by
  induction L using List.reverseRecOn with
  | nil => exact ⟨fun p hp => absurd hp (List.not_mem_nil), fun h => absurd h (lt_irrefl _)⟩
  | append_singleton L q ih =>
    rw [List.foldl_append, List.foldl_cons, List.foldl_nil]
    set a := L.foldl pick (⊤, 0#32)
    obtain ⟨ih1, ih2⟩ := ih
    rcases lt_trichotomy a.1 q.1 with h | h | h
    · have e : pick a q = a := by simp [pick, h]
      rw [e]
      refine ⟨fun p hp => ?_, fun ht => ⟨List.mem_append_left _ (ih2 ht).1, fun p hp hpe => ?_⟩⟩
      · rcases List.mem_append.mp hp with hp | hp
        · exact ih1 p hp
        · rw [List.mem_singleton.mp hp]; exact h.le
      · rcases List.mem_append.mp hp with hp | hp
        · exact (ih2 ht).2 p hp hpe
        · rw [List.mem_singleton.mp hp] at hpe; exact absurd hpe h.ne'
    · have e1 : (pick a q).1 = a.1 := by simp [pick, h]
      refine ⟨fun p hp => ?_, fun ht => ?_⟩
      · rw [e1]
        rcases List.mem_append.mp hp with hp | hp
        · exact ih1 p hp
        · rw [List.mem_singleton.mp hp]; exact h.le
      · rw [e1] at ht ⊢
        obtain ⟨ha, hall⟩ := ih2 ht
        by_cases hk : a.2.toInt < q.2.toInt
        · have e : pick a q = a := Prod.ext e1 (by simp [pick, h, hk])
          rw [e]
          refine ⟨List.mem_append_left _ ha, fun p hp hpe => ?_⟩
          rcases List.mem_append.mp hp with hp | hp
          · exact hall p hp hpe
          · rw [List.mem_singleton.mp hp]; exact hk.le
        · have e2 : (pick a q).2 = q.2 := by simp [pick, h, hk]
          have e : pick a q = q := Prod.ext (e1.trans h) e2
          rw [e]
          refine ⟨by simp, fun p hp hpe => ?_⟩
          rcases List.mem_append.mp hp with hp | hp
          · exact (not_lt.mp hk).trans (hall p hp hpe)
          · rw [List.mem_singleton.mp hp]
    · have e : pick a q = q := by simp [pick, h.not_gt, h.ne']
      rw [e]
      refine ⟨fun p hp => ?_, fun ht => ⟨by simp, fun p hp hpe => ?_⟩⟩
      · rcases List.mem_append.mp hp with hp | hp
        · exact h.le.trans (ih1 p hp)
        · rw [List.mem_singleton.mp hp]
      · rcases List.mem_append.mp hp with hp | hp
        · exact absurd hpe (h.trans_le (ih1 p hp)).ne'
        · rw [List.mem_singleton.mp hp]

end Cert.Proof.Choice

end
-- ==== Proof.Slab.lean ====
/-
  What one block of the kernel computes, as a recursion: the body's 128 slabs of 8 cameras, unrolled in the printed
  text, are one step repeated. A step takes the running minimum and the slab that reached it, each an 8 by 1024 vector
  (one row of cameras of the slab, one detection a column), and lets the next slab's costs in where they are smaller.
-/
module

public import proofs.«01_k».proof.Proof.Gen.KernelIdeal.Frame

@[expose] public section

noncomputable section

namespace Cert.Proof.Slab

open Cert.KernelIdeal Cert.KernelIdeal.Gen
open Idealize.ShloMosaic Idealize.SL.Sem

variable {F : FTy → Type} [FloatOps F] [Named F]

/-- The f32 word of the natural number `n`, for `0 < n < 2 ^ 24`: the exponent of its leading bit and the bits below. -/
def natWord (n : ℕ) : BitVec 32 :=
  if n = 0 then 0#32 else BitVec.ofNat 32 ((127 + Nat.log2 n) * 2 ^ 23 + (n - 2 ^ Nat.log2 n) * 2 ^ (23 - Nat.log2 n))

/-- The slab `s` lies inside the cameras. -/
theorem rows_inb (s : ℕ) : ∀ a, (![8 * (s % 128), 0] : Fin 2 → ℕ) a + S8x1.size a ≤ S1024x1.size a := by
  have h : s % 128 < 128 := Nat.mod_lt _ (by norm_num)
  intro a
  fin_cases a
  · show 8 * (s % 128) + 8 ≤ 1024
    omega
  · exact le_refl 1

/-- The rows of slab `s` in a column of 1024 cameras. -/
abbrev rows (s : ℕ) : Rect S1024x1 := Rect.unit (s := S1024x1) ![8 * (s % 128), 0] S8x1.size (rows_inb s)

/-- The costs of one slab: `dd`, `sdt` the detections' depths and scaled times; `cd`, `ct`, `hl` the slab's cameras'
    depths, times and halved light penalties. -/
def cost (dd sdt : FVec F S1x1024 .f32) (cd ct hl : Vec F S8x1 .f32) : FVec F S8x1024 .f32 :=
  let d := subf (broadcastTo S8x1024 dd broadcasts_S1x1024_S8x1024)
    (broadcastTo S8x1024 (shapeCast S8x1 cd shapeCasts_S8x1_S8x1 : FVec F S8x1 .f32) broadcasts_S8x1_S8x1024)
  let t := subf (broadcastTo S8x1024 sdt broadcasts_S1x1024_S8x1024)
    (broadcastTo S8x1024 (mulf (shapeCast S8x1 ct shapeCasts_S8x1_S8x1 : FVec F S8x1 .f32) (broadcast S8x1 (Named.named κ "ts" 0x3C159095#32)))
      broadcasts_S8x1_S8x1024)
  addf (addf (mulf d d)
    (broadcastTo S8x1024 (shapeCast S8x1 hl shapeCasts_S8x1_S8x1 : FVec F S8x1 .f32) broadcasts_S8x1_S8x1024)) (mulf t t)

/-- One slab's step of the running minimum and of the slab that reached it. -/
def step (s : ℕ) (C : FVec F S8x1024 .f32) (A : FVec F S8x1024 .f32 × FVec F S8x1024 .f32) :
    FVec F S8x1024 .f32 × FVec F S8x1024 .f32 :=
  (select (cmpf .olt C A.1) C A.1,
   select (cmpf .olt C A.1) (broadcast S8x1024 (Scalar.ofBits .f32 (natWord s))) A.2)

section
variable (x0 x1 : Vec F S1x1024 .f32) (x2 x3 x4 : Vec F S1024x1 .f32)

/-- The detections' depths, and their scaled times. -/
def depths : FVec F S1x1024 .f32 := shapeCast S1x1024 (View.ld x0 r0_0) shapeCasts_S1x1024_S1x1024
def times : FVec F S1x1024 .f32 :=
  mulf (shapeCast S1x1024 (View.ld x1 r0_0) shapeCasts_S1x1024_S1x1024 : FVec F S1x1024 .f32) (broadcast S1x1024 (Named.named κ "ts" 0x3C159095#32))

/-- The running minimum and its slab after the first `n` slabs. -/
def sweep : ℕ → FVec F S8x1024 .f32 × FVec F S8x1024 .f32
  | 0 => (broadcast S8x1024 (Scalar.ofBits .f32 0x7F800000#32), broadcast S8x1024 (Scalar.ofBits .f32 0x00000000#32))
  | n + 1 => step n (cost (depths x0) (times x1) (View.ld x2 (rows n)) (View.ld x3 (rows n)) (View.ld x4 (rows n))) (sweep n)

end

/-- One more slab: whatever has the form of a step after the first `n` slabs is the state after `n + 1`. -/
theorem sweep_next (x0 x1 : Vec F S1x1024 .f32) (x2 x3 x4 : Vec F S1024x1 .f32) {n : ℕ} {C A B : FVec F S8x1024 .f32} {w : BitVec 32}
    (h : sweep x0 x1 x2 x3 x4 n = (A, B))
    (hC : C = cost (depths x0) (times x1) (View.ld x2 (rows n)) (View.ld x3 (rows n)) (View.ld x4 (rows n)))
    (hw : w = natWord n) :
    sweep x0 x1 x2 x3 x4 (n + 1)
      = (select (cmpf .olt C A) C A, select (cmpf .olt C A) (broadcast S8x1024 (Scalar.ofBits .f32 w)) B) := by
  rw [sweep, h, hC, hw]
  rfl

/-- The same of the running minimum alone. -/
theorem sweep_next_min (x0 x1 : Vec F S1x1024 .f32) (x2 x3 x4 : Vec F S1024x1 .f32) {n : ℕ} {C A : FVec F S8x1024 .f32}
    (h : (sweep x0 x1 x2 x3 x4 n).1 = A)
    (hC : C = cost (depths x0) (times x1) (View.ld x2 (rows n)) (View.ld x3 (rows n)) (View.ld x4 (rows n))) :
    (sweep x0 x1 x2 x3 x4 (n + 1)).1 = select (cmpf .olt C A) C A := by
  rw [sweep, step, h, hC]

/-- The least of the eight rows' running minima, per detection. -/
def least (A : FVec F S8x1024 .f32) : FVec F S1x1024 .f32 :=
  shapeCast S1x1024 (multiReduction .minimumf [0] S1024 A 0x7F800000#32 reduces_S8x1024_S1024 (.inl rfl) rfl) shapeCasts_S1024_S1x1024

/-- Whether the least cost is under the threshold. -/
def valid (A : FVec F S8x1024 .f32) : IVec S1x1024 1 :=
  cmpf .olt (least A) (broadcast S1x1024 (Scalar.ofBits .f32 0x441C4000#32))

/-- The camera each row proposes: its slab times 8 plus the row, at the rows that hold the least cost. -/
def proposal (A B : FVec F S8x1024 .f32) (pat : Vec F S8x1 .f32) : FVec F S8x1024 .f32 :=
  select (cmpf .oeq A (broadcastTo S8x1024 (least A) broadcasts_S1x1024_S8x1024))
    (addf (mulf B (broadcast S8x1024 (Scalar.ofBits .f32 0x41000000#32)))
      (broadcastTo S8x1024 (shapeCast S8x1 pat shapeCasts_S8x1_S8x1 : FVec F S8x1 .f32) broadcasts_S8x1_S8x1024))
    (broadcast S8x1024 (Scalar.ofBits .f32 0x45000000#32))

/-- The assignments of a block from its final running minimum and slab. -/
def assigned (A B : FVec F S8x1024 .f32) (pat : Vec F S8x1 .f32) : IVec S1x1024 32 :=
  select (valid A) (fptosi 32 (least (proposal A B pat))) (broadcast S1x1024 4294967295#32)

/-- The weights of a block from its final running minimum. -/
def weight (A : FVec F S8x1024 .f32) : FVec F S1x1024 .f32 :=
  select (valid A)
    (divf (broadcast S1x1024 (Scalar.ofBits .f32 0x3F800000#32))
      (addf (broadcast S1x1024 (Scalar.ofBits .f32 0x3F800000#32)) (sqrt (least A))))
    (broadcast S1x1024 (Scalar.ofBits .f32 0x00000000#32))

/-- The stored assignments, once the final minimum and slab are known to be the recursion's. -/
theorem assigned_of (x0 x1 : Vec F S1x1024 .f32) (x2 x3 x4 : Vec F S1024x1 .f32) {A B : FVec F S8x1024 .f32} (pat : Vec F S8x1 .f32)
    (h : sweep x0 x1 x2 x3 x4 128 = (A, B)) :
    (View.canon [⟨r0_0, assigned A B pat⟩] : Vec F S1x1024 .i32)
      = View.canon [⟨r0_0, assigned (sweep x0 x1 x2 x3 x4 128).1 (sweep x0 x1 x2 x3 x4 128).2 pat⟩] := by
  rw [h]

/-- The stored weights, likewise. -/
theorem weight_of (x0 x1 : Vec F S1x1024 .f32) (x2 x3 x4 : Vec F S1024x1 .f32) {A : FVec F S8x1024 .f32}
    (h : (sweep x0 x1 x2 x3 x4 128).1 = A) :
    (View.canon [⟨r0_0, weight A⟩] : Vec F S1x1024 .f32) = View.canon [⟨r0_0, weight (sweep x0 x1 x2 x3 x4 128).1⟩] := by
  rw [h]

section
variable (x0 x1 : Vec F S1x1024 .f32) (x2 x3 x4 x5 : Vec F S1024x1 .f32)

set_option maxHeartbeats 0 in
set_option maxRecDepth 100000 in
/-- What the body stores into the first result's block: the 128 printed slabs, each one step of the recursion. -/
theorem out_asn : out0_6 x0 x1 x2 x3 x4 x5
    = View.canon [⟨r0_0, assigned (sweep x0 x1 x2 x3 x4 128).1 (sweep x0 x1 x2 x3 x4 128).2 (View.ld x5 (rows 0))⟩] := by
  refine assigned_of x0 x1 x2 x3 x4 (View.ld x5 (rows 0)) ?_
  iterate 128 refine sweep_next x0 x1 x2 x3 x4 ?_ rfl rfl
  rfl

set_option maxHeartbeats 0 in
set_option maxRecDepth 100000 in
/-- What the body stores into the second result's block. -/
theorem out_weight : out0_7 x0 x1 x2 x3 x4 x5 = View.canon [⟨r0_0, weight (sweep x0 x1 x2 x3 x4 128).1⟩] := by
  refine weight_of x0 x1 x2 x3 x4 ?_
  iterate 128 refine sweep_next_min x0 x1 x2 x3 x4 ?_ rfl
  rfl
end

end Cert.Proof.Slab

end
-- ==== Proof.Cost.lean ====
/-
  The cost of assigning a detection to a camera, on the extended reals: the values of the f32 words both programs print,
  the named root, and the equation between the kernel's cost (the time difference scaled before it is squared) and the
  reference's (squared, divided by 3600 and weighted).
-/
module

public import proofs.«01_k».proof.Proof.Slab
public import Idealize.ShloMosaic.PureOps.Ideal
public import Idealize.ShloMosaic.PureOps.IdealRules

@[expose] public section

noncomputable section

namespace Cert.Proof.Cost

open Idealize.ShloMosaic

/-! ## Words -/

theorem word_zero : Ideal.ofBits .f32 0x00000000#32 = ((0 : ℝ) : EReal) := by simp [Ideal.ofBits, Ideal.ieee]
theorem word_top : Ideal.ofBits .f32 0x7F800000#32 = ⊤ := by simp [Ideal.ofBits, Ideal.ieee]
theorem word_one : Ideal.ofBits .f32 0x3F800000#32 = ((1 : ℝ) : EReal) := by
  simp [Ideal.ofBits, Ideal.ieee, -EReal.coe_mul]; norm_num
theorem word_8 : Ideal.ofBits .f32 0x41000000#32 = ((8 : ℝ) : EReal) := by
  simp [Ideal.ofBits, Ideal.ieee, -EReal.coe_mul]; norm_num
theorem word_625 : Ideal.ofBits .f32 0x441C4000#32 = ((625 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_3600 : Ideal.ofBits .f32 0x45610000#32 = ((3600 : ℝ) : EReal) := by
  simp [Ideal.ofBits, Ideal.ieee, -EReal.coe_mul]; norm_num
/-- The f32 nearest 0.3 is this rational. -/
theorem word_weight : Ideal.ofBits .f32 0x3E99999A#32 = ((5033165 / 16777216 : ℝ) : EReal) := by
  simp [Ideal.ofBits, Ideal.ieee, -EReal.coe_mul]; norm_num

/-- The fields of the slabs' words, by computation: a plus sign, an exponent that is neither end, and a significand that
    is the slab's number shifted. -/
theorem word_fields : ∀ n : Fin 128, n ≠ 0 →
    (Slab.natWord n).extractLsb' (8 + 23) 1 ≠ 1#1 ∧ ((Slab.natWord n).extractLsb' 23 8).toNat ≠ 2 ^ 8 - 1
      ∧ ((Slab.natWord n).extractLsb' 23 8).toNat ≠ 0
      ∧ (2 ^ 23 + ((Slab.natWord n).extractLsb' 0 23).toNat) * 2 ^ ((Slab.natWord n).extractLsb' 23 8).toNat = n.val * 2 ^ 150 := by
  decide +kernel

/-- The words of the slabs denote their numbers. -/
theorem word_nat (n : ℕ) (h : n < 128) : Ideal.ofBits .f32 (Slab.natWord n) = ((n : ℝ) : EReal) := by
  by_cases hn : n = 0
  · subst hn; rw [show Slab.natWord 0 = 0x00000000#32 from rfl, word_zero, Nat.cast_zero]
  obtain ⟨h1, h2, h3, h4⟩ := word_fields ⟨n, h⟩ (fun e => hn (congrArg Fin.val e))
  show Ideal.ieee 8 23 (Slab.natWord n) = _
  unfold Ideal.ieee
  simp only [beq_eq_false_iff_ne.mpr h1, if_neg h2, if_neg h3]
  congr 1
  have h5 : ((2 ^ 23 + ((Slab.natWord n).extractLsb' 0 23).toNat : ℕ) : ℝ) * 2 ^ ((Slab.natWord n).extractLsb' 23 8).toNat
      = (n : ℝ) * 2 ^ 150 := by exact_mod_cast h4
  rw [show ((((Slab.natWord n).extractLsb' 23 8).toNat : ℤ) - (2 ^ (8 - 1) - 1) - ((23 : ℕ) : ℤ))
      = (((Slab.natWord n).extractLsb' 23 8).toNat : ℤ) - ((150 : ℕ) : ℤ) by norm_num; ring, zpow_sub₀ (by norm_num), zpow_natCast, zpow_natCast]
  rw [if_neg (by simp), one_mul, ← mul_div_assoc, h5]
  exact mul_div_cancel_right₀ _ (by positivity)

/-! ## The named root -/

/-- The root of the time weight over 3600. -/
def τ : ℝ := Real.sqrt (1006633 / 12079595520)

theorem τ_pos : 0 < τ := Real.sqrt_pos.mpr (by norm_num)
theorem τ_sq : τ * τ = 1006633 / 12079595520 := Real.mul_self_sqrt (by norm_num)

/-- The kernel's named constant denotes it. -/
theorem named_ts : (Named.named Cert.KernelIdeal.κ "ts" 0x3C159095#32 : Ideal .f32) = ((τ : ℝ) : EReal) :=
  IdealRules.named_const.ideal_named_scalar _ _ _ _ rfl

/-! ## The two costs -/

/-- The kernel's cost: depths `d`, `c`, times `t`, `k` of the detection and of the camera, `l` the camera's light term. -/
def kernelCost (d t c k l : EReal) : EReal :=
  ((d - c) * (d - c) + l) + (t * (τ : EReal) - k * (τ : EReal)) * (t * (τ : EReal) - k * (τ : EReal))

/-- A camera's halved light penalty. -/
def light (c : EReal) : EReal :=
  Ideal.ofBits .f32 0x3F000000#32 * (Ideal.ofBits .f32 0x3F800000#32 - Ideal.exp (Ideal.ofBits .f32 0xBD3851EC#32 * c))

/-- The reference's cost. -/
def cost (d t c k : EReal) : EReal :=
  (Ideal.ofBits .f32 0x3F800000#32 * ((d - c) * (d - c)) + light c)
    + Ideal.ofBits .f32 0x3E99999A#32 * Ideal.div ((t - k) * (t - k)) (Ideal.ofBits .f32 0x45610000#32)

/-- Scaling the two times by the root before the difference is squared weighs the square: at the infinities too. -/
theorem scaled_sq (t k : EReal) :
    (t * (τ : EReal) - k * (τ : EReal)) * (t * (τ : EReal) - k * (τ : EReal))
      = ((5033165 / 16777216 : ℝ) : EReal) * ((t - k) * (t - k) * ((1 / 3600 : ℝ) : EReal)) := by
  have hτ := τ_pos
  have hw : (0 : ℝ) < 5033165 / 16777216 := by norm_num
  have hd : (0 : ℝ) < 1 / 3600 := by norm_num
  induction t <;> induction k
  case coe.coe x y =>
    have e : (x * τ - y * τ) * (x * τ - y * τ) = 5033165 / 16777216 * ((x - y) * (x - y) * (1 / 3600)) := by
      have h := τ_sq
      linear_combination (x - y) * (x - y) * h
    exact_mod_cast congrArg Real.toEReal e
  all_goals
    simp only [EReal.bot_mul_coe_of_pos hτ, EReal.top_mul_coe_of_pos hτ, ← EReal.coe_mul, EReal.bot_sub, EReal.top_sub_bot,
      EReal.top_sub_coe, EReal.coe_sub_bot, EReal.sub_top, EReal.bot_mul_bot, EReal.top_mul_top,
      EReal.top_mul_coe_of_pos hd, EReal.coe_mul_top_of_pos hw]

/-- The kernel's cost is the reference's. -/
theorem kernelCost_eq (d t c k : EReal) : kernelCost d t c k (light c) = cost d t c k := by
  rw [kernelCost, cost, word_one, word_weight, word_3600, Ideal.div_coe (by norm_num), EReal.coe_one, one_mul, scaled_sq]

end Cert.Proof.Cost

end
-- ==== Proof.Block.lean ====
/-
  What one block of the kernel holds, element by element, on the extended reals: the recursion over the slabs at a row and a
  detection is `Choice.track` over that row's costs, and the two stored blocks are the first camera with the least cost and
  its weight.
-/
module

public import proofs.«01_k».proof.Proof.Choice
public import proofs.«01_k».proof.Proof.Cost
public import Idealize.ShloMosaic.Lib.ValueIdx
public import Idealize.ShloMosaic.PureOps.Reduce
public import Idealize.ShloMosaic.PureOps.Ideal.Laws
public import Idealize.ShloMosaic.Lib.Pipeline.Value

@[expose] public section

noncomputable section

namespace Cert.Proof.Block

open Cert.KernelIdeal Cert.KernelIdeal.Gen
open Idealize.ShloMosaic Idealize.ShloMosaic.ValueIdx Idealize.SL.Sem
open Cert.Proof.Choice Cert.Proof.Slab

/-- A select on a decided comparison. -/
theorem select_decide {α : Type} (p : Prop) [Decidable p] (a b : α) :
    Scalar.select (BitVec.ofBool (decide p)) a b = if p then a else b := by
  by_cases h : p
  · simp [h, select_one]
  · simp [h, select_zero]

section
variable (x0 x1 : Vec Ideal S1x1024 .f32) (x2 x3 x4 x5 : Vec Ideal S1024x1 .f32)

/-- The cost of the block's detection `b` at camera `j`. -/
def blockCost (b j : Fin 1024) : EReal :=
  Cost.kernelCost (x0 (ix2 0 b)) (x1 (ix2 0 b)) (x2 (ix2 j 0)) (x3 (ix2 j 0)) (x4 (ix2 j 0))

/-- A row of detections broadcast down the eight rows. -/
theorem wide_apply (x : FVec Ideal S1x1024 .f32) (r : Fin 8) (b : Fin 1024) :
    broadcastTo S8x1024 x broadcasts_S1x1024_S8x1024 (ix2 r b) = x (ix2 0 b) :=
  broadcastTo_apply x _ _ _ (by intro a; fin_cases a <;> rfl)

/-- A column of a slab broadcast across the detections. -/
theorem tall_apply (x : FVec Ideal S8x1 .f32) (r : Fin 8) (b : Fin 1024) :
    broadcastTo S8x1024 x broadcasts_S8x1_S8x1024 (ix2 r b) = x (ix2 r 0) :=
  broadcastTo_apply x _ _ _ (by intro a; fin_cases a <;> rfl)

/-- Row `r` of slab `s` is camera `8 s + r`. -/
theorem rows_apply (x : Vec Ideal S1024x1 .f32) (s : ℕ) (r : Fin 8) : View.ld x (rows s) (ix2 r 0) = x (ix2 (camera s r) 0) := by
  refine congrArg x (funext fun a => Fin.ext ?_)
  fin_cases a
  · show 8 * (s % 128) + 1 * (r : ℕ) = 8 * (s % 128) + r
    rw [one_mul]
  · rfl

theorem depths_eq (x : Vec Ideal S1x1024 .f32) : depths x = x := by
  have h : View.ld x r0_0 = x := View.ld_unit_zero (by funext a; fin_cases a <;> rfl) _ x
  exact (shapeCast_self (s := S1x1024) (View.ld x r0_0) _).trans h

theorem times_apply (x : Vec Ideal S1x1024 .f32) (b : Fin 1024) :
    times x (ix2 0 b) = x (ix2 0 b) * (Cost.τ : EReal) := by
  have h := congrFun (depths_eq x) (ix2 0 b)
  rw [depths] at h
  show shapeCast S1x1024 (View.ld x r0_0) _ (ix2 0 b) * (Named.named κ "ts" 0x3C159095#32 : Ideal .f32) = _
  rw [h, Cost.named_ts]

/-- The costs of a slab, at a row and a detection. -/
theorem cost_apply (s : ℕ) (r : Fin 8) (b : Fin 1024) :
    Slab.cost (depths x0) (times x1) (View.ld x2 (rows s)) (View.ld x3 (rows s)) (View.ld x4 (rows s)) (ix2 r b)
      = row (blockCost x0 x1 x2 x3 x4 b) r s := by
  simp only [Slab.cost, row, blockCost, Cost.kernelCost, addf_apply, mulf_apply, subf_apply, wide_apply, tall_apply, shapeCast_self,
    depths_eq, times_apply, broadcast_apply, Cost.named_ts]
  rw [← rows_apply x2 s r, ← rows_apply x3 s r, ← rows_apply x4 s r]

/-- The recursion at a row and a detection. -/
theorem sweep_apply (r : Fin 8) (b : Fin 1024) : ∀ n, n ≤ 128 →
    (sweep x0 x1 x2 x3 x4 n).1 (ix2 r b) = (track (row (blockCost x0 x1 x2 x3 x4 b) r) n).1
      ∧ (sweep x0 x1 x2 x3 x4 n).2 (ix2 r b) = (((track (row (blockCost x0 x1 x2 x3 x4 b) r) n).2 : ℝ) : EReal)
  | 0, _ => ⟨Cost.word_top, Cost.word_zero.trans (by rw [track, Nat.cast_zero])⟩
  | n + 1, h => by
    obtain ⟨h1, h2⟩ := sweep_apply r b n (by omega)
    have hw : (Scalar.ofBits .f32 (natWord n) : Ideal .f32) = ((n : ℝ) : EReal) := Cost.word_nat n (by omega)
    simp only [sweep, step, select_apply, cmpf_apply, broadcast_apply, cost_apply, h1, h2, hw, Ideal.cmpf_def, Ideal.cmp, select_decide, track]
    split_ifs <;> exact ⟨rfl, rfl⟩

/-- The least over the eight rows, at a detection. -/
theorem least_apply (A : FVec Ideal S8x1024 .f32) (b : Fin 1024) : least A (ix2 0 b) = ⨅ r : Fin 8, A (ix2 r b) := by
  rw [least, shapeCast_apply _ _ _ (ix1 b) (by rw [Shape.rowMajor_val_one, Shape.rowMajor_val_two]; simp)]
  refine (multiReduction_minimumf_eq_fold A _ _ _ _ (ix1 b)).trans ?_
  have hb : (FloatOps.ofBits .f32 0x7F800000#32 : Ideal .f32) = (⊤ : EReal) := Cost.word_top
  have hdrop : ∀ r : Fin 8, reduces_S8x1024_S1024.drop (ix2 r b) = ix1 b := fun r => funext fun a => by
    fin_cases a
    exact Fin.ext (Shape.Reduces.drop_apply_val_of_eq reduces_S8x1024_S1024 (ix2 r b) 0 1)
  refine le_antisymm (le_iInf fun r => ?_) ?_
  · refine (Finset.fold_min_le _).mpr (Or.inr ⟨ix2 r b, ?_, le_refl _⟩)
    simp [hdrop]
  · refine (Finset.le_fold_min _).mpr ⟨by rw [hb]; exact le_top, fun i hi => ?_⟩
    have hi1 : (i 1 : ℕ) = b := (Shape.Reduces.drop_apply_val_of_eq reduces_S8x1024_S1024 i 0 1).symm.trans
      (congrArg Fin.val (congrFun (Finset.mem_filter.mp hi).2 0))
    rw [show i = ix2 (i 0) b from (eq_ix2 i).trans (congrArg (ix2 (i 0)) (Fin.ext hi1))]
    exact iInf_le (fun r : Fin 8 => A (ix2 r b)) (i 0)

/-! ## The two stored blocks -/

/-- The least cost of the block's detection `b`. -/
theorem least_sweep (b : Fin 1024) :
    least (sweep x0 x1 x2 x3 x4 128).1 (ix2 0 b) = ⨅ j, blockCost x0 x1 x2 x3 x4 b j := by
  rw [least_apply, ← iInf_rowMin]
  exact iInf_congr fun r => (sweep_apply x0 x1 x2 x3 x4 r b 128 (le_refl _)).1

/-- The threshold comparison, as a condition. -/
theorem select_valid {α : Type} (b : Fin 1024) (y z : α) :
    Scalar.select (valid (sweep x0 x1 x2 x3 x4 128).1 (ix2 0 b)) y z
      = if ⨅ j, blockCost x0 x1 x2 x3 x4 b j < ((625 : ℝ) : EReal) then y else z := by
  have h : (Scalar.ofBits .f32 0x441C4000#32 : Ideal .f32) = ((625 : ℝ) : EReal) := Cost.word_625
  rw [valid, cmpf_apply, broadcast_apply, least_sweep, h, Ideal.cmpf_def, Ideal.cmp, select_decide]

/-- The natural number of an extended real, as a word. -/
theorem fptosi_nat (n : ℕ) (h : n < 2 ^ 31) : Ideal.fptosi 32 ((n : ℝ) : EReal) = BitVec.ofNat 32 n := by
  have e : Ideal.toIntClamped (-(2 ^ (32 - 1) : Nat)) ((2 ^ (32 - 1) : Nat) - 1) ((n : ℝ) : EReal) = n := by
    show max _ (min _ (if (0 : ℝ) ≤ n then ⌊(n : ℝ)⌋ else ⌈(n : ℝ)⌉)) = _
    rw [if_pos (Nat.cast_nonneg n), Int.floor_natCast]
    norm_num
    omega
  rw [Ideal.fptosi, e, BitVec.ofInt_natCast]

/-- The proposal of row `r`, where the row numbers column holds the row numbers. -/
theorem proposal_apply (h5 : ∀ r : Fin 8, x5 (ix2 (camera 0 r) 0) = (((r : ℕ) : ℝ) : EReal)) (r : Fin 8) (b : Fin 1024) :
    proposal (sweep x0 x1 x2 x3 x4 128).1 (sweep x0 x1 x2 x3 x4 128).2 (View.ld x5 (rows 0)) (ix2 r b)
      = propose (blockCost x0 x1 x2 x3 x4 b) (⨅ j, blockCost x0 x1 x2 x3 x4 b j) r := by
  obtain ⟨h1, h2⟩ := sweep_apply x0 x1 x2 x3 x4 r b 128 (le_refl _)
  have h8 : (Scalar.ofBits .f32 0x41000000#32 : Ideal .f32) = ((8 : ℝ) : EReal) := Cost.word_8
  have h2048 : (Scalar.ofBits .f32 0x45000000#32 : Ideal .f32) = ((2048 : ℝ) : EReal) := Cost.word_2048
  have hp := (rows_apply x5 0 r).trans (h5 r)
  rw [propose, rowMin, ← h1]
  simp only [proposal, select_apply, cmpf_apply, addf_apply, mulf_apply, broadcast_apply, wide_apply, tall_apply, shapeCast_self,
    least_sweep, h2, h8, h2048, Ideal.cmpf_def, Ideal.cmp, select_decide]
  refine if_congr Iff.rfl ?_ rfl
  refine (congrArg (_ + ·) hp).trans ?_
  rw [← EReal.coe_mul, ← EReal.coe_add]
  push_cast
  rw [mul_comm]

/-- The assignment of the block's detection `b`, `j` the first camera with its least cost. -/
theorem assigned_apply (h5 : ∀ r : Fin 8, x5 (ix2 (camera 0 r) 0) = (((r : ℕ) : ℝ) : EReal)) (b j : Fin 1024)
    (hj : First (blockCost x0 x1 x2 x3 x4 b) (⨅ i, blockCost x0 x1 x2 x3 x4 b i) j) :
    out0_6 x0 x1 x2 x3 x4 x5 (ix2 0 b)
      = if ⨅ i, blockCost x0 x1 x2 x3 x4 b i < ((625 : ℝ) : EReal) then BitVec.ofNat 32 j else 4294967295#32 := by
  rw [out_asn, View.canon_unit_zero (by funext a; fin_cases a <;> rfl), assigned, select_apply, select_valid]
  by_cases hm : ⨅ i, blockCost x0 x1 x2 x3 x4 b i < ((625 : ℝ) : EReal)
  · rw [if_pos hm, if_pos hm]
    have e : ∀ x : FVec Ideal S1x1024 .f32, fptosi 32 x (ix2 0 b) = Ideal.fptosi 32 (x (ix2 0 b)) := fun _ => rfl
    rw [e, least_apply, iInf_congr fun r => proposal_apply x0 x1 x2 x3 x4 x5 h5 r b, iInf_propose _ hj (hm.trans (EReal.coe_lt_top _)),
      fptosi_nat _ (by omega)]
  · rw [if_neg hm, if_neg hm, broadcast_apply]

/-- The weight of the block's detection `b`. -/
theorem weight_apply (b : Fin 1024) :
    out0_7 x0 x1 x2 x3 x4 x5 (ix2 0 b)
      = if ⨅ i, blockCost x0 x1 x2 x3 x4 b i < ((625 : ℝ) : EReal) then
          Ideal.div (Ideal.ofBits .f32 0x3F800000#32)
            (Ideal.ofBits .f32 0x3F800000#32 + Ideal.sqrt (⨅ i, blockCost x0 x1 x2 x3 x4 b i))
        else Ideal.ofBits .f32 0x00000000#32 := by
  rw [out_weight, View.canon_unit_zero (by funext a; fin_cases a <;> rfl), weight, select_apply, select_valid, ← least_sweep]
  have e : ∀ x : FVec Ideal S1x1024 .f32,
      divf (broadcast S1x1024 (Scalar.ofBits .f32 0x3F800000#32)) (addf (broadcast S1x1024 (Scalar.ofBits .f32 0x3F800000#32)) (sqrt x)) (ix2 0 b)
        = Ideal.div (Ideal.ofBits .f32 0x3F800000#32) (Ideal.ofBits .f32 0x3F800000#32 + Ideal.sqrt (x (ix2 0 b))) := fun _ => rfl
  rw [e]
  exact if_congr Iff.rfl rfl rfl
end

end Cert.Proof.Block

end
-- ==== Proof.Entry.lean ====
/-
  What the kernel's six operands hold when its pipeline starts, index by index: the host lines before it lay the four
  arguments out as a row or a column, compute each camera's light penalty and number the cameras.
-/
module

public import proofs.«01_k».proof.Proof.Gen.KernelIdeal.Frame
public import proofs.«01_k».proof.Proof.Cost
public import Idealize.ShloMosaic.Lib.ValueIdx
public import Idealize.ShloMosaic.Lib.IdealHost
public import Idealize.ShloMosaic.Lib.Claim
public import Idealize.ShloMosaic.Lib.Pipeline.Value

@[expose] public section

noncomputable section

namespace Cert.Proof.Entry

open Cert.KernelIdeal Cert.KernelIdeal.Gen
open Idealize.ShloMosaic Idealize.ShloMosaic.TcCoe Idealize.ShloMosaic.ValueIdx Idealize.SL.Sem

/-- An array laid out as one row. -/
theorem as_row {α : Type} (x : S65536.Idx → α) (n : Fin 65536) : shapeCast S1x65536 x shapeCasts_S65536_S1x65536 (ix2 0 n) = x (ix1 n) :=
  shapeCast_apply _ _ _ (ix1 n) (by rw [Shape.rowMajor_val_one, Shape.rowMajor_val_two]; simp)

/-- An array laid out as one column. -/
theorem as_column {α : Type} (x : S1024.Idx → α) (j : Fin 1024) : shapeCast S1024x1 x shapeCasts_S1024_S1024x1 (ix2 j 0) = x (ix1 j) :=
  shapeCast_apply _ _ _ (ix1 j) (by rw [Shape.rowMajor_val_one, Shape.rowMajor_val_two]; simp)

/-- One row laid out as an array. -/
theorem of_row {α : Type} (x : S1x65536.Idx → α) (n : Fin 65536) : shapeCast S65536 x shapeCasts_S1x65536_S65536 (ix1 n) = x (ix2 0 n) :=
  shapeCast_apply _ _ _ (ix2 0 n) (by rw [Shape.rowMajor_val_one, Shape.rowMajor_val_two]; simp)

variable (m : (ℓ : Loc nD τ sig) → Buf (Elt Ideal) ℓ) (c : Dev nD)

theorem v0_apply (n : Fin 65536) : (V m c main_v0 : Vec Ideal S1x65536 .f32) (ix2 0 n) = (m ((c : Thread nD τ).loc main_arg0) : Vec Ideal S65536 .f32) (ix1 n) := by
  entry_read
  exact as_row _ n

theorem v1_apply (n : Fin 65536) : (V m c main_v1 : Vec Ideal S1x65536 .f32) (ix2 0 n) = (m ((c : Thread nD τ).loc main_arg2) : Vec Ideal S65536 .f32) (ix1 n) := by
  entry_read
  exact as_row _ n

theorem v2_apply (j : Fin 1024) : (V m c main_v2 : Vec Ideal S1024x1 .f32) (ix2 j 0) = (m ((c : Thread nD τ).loc main_arg1) : Vec Ideal S1024 .f32) (ix1 j) := by
  entry_read
  exact as_column _ j

theorem v3_apply (j : Fin 1024) : (V m c main_v3 : Vec Ideal S1024x1 .f32) (ix2 j 0) = (m ((c : Thread nD τ).loc main_arg3) : Vec Ideal S1024 .f32) (ix1 j) := by
  entry_read
  exact as_column _ j

theorem v11_apply (j : Fin 1024) : (V m c main_v11 : Vec Ideal S1024x1 .f32) (ix2 j 0)
    = Cost.light ((m ((c : Thread nD τ).loc main_arg1) : Vec Ideal S1024 .f32) (ix1 j)) := by
  show StableHlo.after hostOps0 _ _ _ = _
  unfold hostOps0
  after_results
  refine (as_column _ j).trans ?_
  have he : ∀ x : FVec Ideal S1024 .f32, Host.exp x (ix1 j) = Ideal.exp (x (ix1 j)) := fun _ => rfl
  rw [mulf_apply, subf_apply, he, mulf_apply, broadcastInDim_scalar_apply, broadcastInDim_scalar_apply, broadcastInDim_scalar_apply]
  rfl

theorem v13_apply (j : Fin 1024) : (V m c main_v13 : Vec Ideal S1024x1 .f32) (ix2 j 0) = (((j : ℕ) : ℝ) : EReal) := by
  show StableHlo.after hostOps0 _ _ _ = _
  unfold hostOps0
  after_results
  refine (as_column _ j).trans ?_
  have hs : ∀ x : IVec S1024 32, sitofp (F := Ideal) .f32 x (ix1 j) = (((x (ix1 j)).toInt : ℝ) : EReal) := fun _ => rfl
  rw [hs, iotaInDim_apply]
  have := j.isLt
  have e : (BitVec.ofNat 32 (ix1 j 0 : Fin 1024)).toInt = ((j : ℕ) : ℤ) := by
    show (BitVec.ofNat 32 (j : ℕ)).toInt = _
    rw [BitVec.toInt_eq_toNat_of_lt] <;> rw [BitVec.toNat_ofNat, Nat.mod_eq_of_lt (by omega)]
    omega
  refine (congrArg (fun z : ℤ => ((z : ℝ) : EReal)) e).trans ?_
  rw [Int.cast_natCast]

end Cert.Proof.Entry

end
-- ==== Proof.KernelArray.lean ====
/-
  What the kernel's two result arrays hold after its run, detection by detection: block `t` of the grid is detections
  `1024 t … 1024 t + 1023`, so each block's value (`Block`) is read at its own place and laid out as the result.
-/
module

public import proofs.«01_k».proof.Proof.Block
public import proofs.«01_k».proof.Proof.Entry

@[expose] public section

noncomputable section

namespace Cert.Proof.KernelArray

open Cert.KernelIdeal Cert.KernelIdeal.Gen
open Idealize.ShloMosaic Idealize.ShloMosaic.TcCoe Idealize.ShloMosaic.ValueIdx Idealize.SL.Sem
open Cert.Proof.Choice Cert.Proof.Block

/-- The place of block `t`'s detection `b`. -/
def place (t : Fin cfg0.N) (b : Fin 1024) : Fin 65536 :=
  ⟨1024 * t.val + b.val, by have h : t.val < 64 := t.isLt; have := b.isLt; omega⟩

/-- Every detection is in some block. -/
theorem exists_place (n : Fin 65536) : ∃ t b, place t b = n :=
  ⟨⟨n.val / 1024, show n.val / 1024 < 64 by have := n.isLt; omega⟩, ⟨n.val % 1024, Nat.mod_lt _ (by norm_num)⟩,
    Fin.ext (show 1024 * (n.val / 1024) + n.val % 1024 = n.val by omega)⟩

/-! ## Where a block sits -/

theorem at0 : ∀ t : Fin cfg0.N, win0_0.index t 0 = 0 ∧ win0_0.index t 1 = t.val :=
  (by decide +kernel : ∀ t : Fin grid0.N, win0_0.index t 0 = 0 ∧ win0_0.index t 1 = t.val)
theorem at1 : ∀ t : Fin cfg0.N, win0_1.index t 0 = 0 ∧ win0_1.index t 1 = t.val :=
  (by decide +kernel : ∀ t : Fin grid0.N, win0_1.index t 0 = 0 ∧ win0_1.index t 1 = t.val)
theorem at6 : ∀ t : Fin cfg0.N, win0_6.index t 0 = 0 ∧ win0_6.index t 1 = t.val :=
  (by decide +kernel : ∀ t : Fin grid0.N, win0_6.index t 0 = 0 ∧ win0_6.index t 1 = t.val)
theorem at7 : ∀ t : Fin cfg0.N, win0_7.index t 0 = 0 ∧ win0_7.index t 1 = t.val :=
  (by decide +kernel : ∀ t : Fin grid0.N, win0_7.index t 0 = 0 ∧ win0_7.index t 1 = t.val)

section
variable (m : (ℓ : Loc nD τ sig) → Buf (Elt Ideal) ℓ) (c : Dev nD) (t : Fin cfg0.N)

/-- The detections' depths and times at point `t` are the block's. -/
theorem iblk0 (b : Fin 1024) : (iblk m c 0 t : Vec Ideal S1x1024 .f32) (ix2 0 b)
    = (m ((c : Thread nD τ).loc main_arg0) : Vec Ideal S65536 .f32) (ix1 (place t b)) := by
  refine Eq.trans ?_ (Entry.v0_apply m c (place t b))
  refine congrArg (V m c main_v0) (funext fun a => Fin.ext ?_)
  fin_cases a
  · show win0_0.index t 0 * 1 + 1 * 0 = 0
    rw [(at0 t).1]
  · show win0_0.index t 1 * 1024 + 1 * b.val = 1024 * t.val + b.val
    rw [(at0 t).2]; omega

theorem iblk1 (b : Fin 1024) : (iblk m c 1 t : Vec Ideal S1x1024 .f32) (ix2 0 b)
    = (m ((c : Thread nD τ).loc main_arg2) : Vec Ideal S65536 .f32) (ix1 (place t b)) := by
  refine Eq.trans ?_ (Entry.v1_apply m c (place t b))
  refine congrArg (V m c main_v1) (funext fun a => Fin.ext ?_)
  fin_cases a
  · show win0_1.index t 0 * 1 + 1 * 0 = 0
    rw [(at1 t).1]
  · show win0_1.index t 1 * 1024 + 1 * b.val = 1024 * t.val + b.val
    rw [(at1 t).2]; omega

/-- The cameras' columns are whole at every point. -/
theorem iblk2 (j : Fin 1024) : (iblk m c 2 t : Vec Ideal S1024x1 .f32) (ix2 j 0)
    = (m ((c : Thread nD τ).loc main_arg1) : Vec Ideal S1024 .f32) (ix1 j) := by
  refine Eq.trans ?_ (Entry.v2_apply m c j)
  refine congrArg (V m c main_v2) (funext fun a => Fin.ext ?_)
  fin_cases a
  · show 0 * 1024 + 1 * j.val = j.val
    omega
  · rfl

theorem iblk3 (j : Fin 1024) : (iblk m c 3 t : Vec Ideal S1024x1 .f32) (ix2 j 0)
    = (m ((c : Thread nD τ).loc main_arg3) : Vec Ideal S1024 .f32) (ix1 j) := by
  refine Eq.trans ?_ (Entry.v3_apply m c j)
  refine congrArg (V m c main_v3) (funext fun a => Fin.ext ?_)
  fin_cases a
  · show 0 * 1024 + 1 * j.val = j.val
    omega
  · rfl

theorem iblk4 (j : Fin 1024) : (iblk m c 4 t : Vec Ideal S1024x1 .f32) (ix2 j 0)
    = Cost.light ((m ((c : Thread nD τ).loc main_arg1) : Vec Ideal S1024 .f32) (ix1 j)) := by
  refine Eq.trans ?_ (Entry.v11_apply m c j)
  refine congrArg (V m c main_v11) (funext fun a => Fin.ext ?_)
  fin_cases a
  · show 0 * 1024 + 1 * j.val = j.val
    omega
  · rfl

theorem iblk5 (j : Fin 1024) : (iblk m c 5 t : Vec Ideal S1024x1 .f32) (ix2 j 0) = (((j : ℕ) : ℝ) : EReal) := by
  refine Eq.trans ?_ (Entry.v13_apply m c j)
  refine congrArg (V m c main_v13) (funext fun a => Fin.ext ?_)
  fin_cases a
  · show 0 * 1024 + 1 * j.val = j.val
    omega
  · rfl

/-- The costs of detection `n` with each camera, off the launch's arguments. -/
def costAt (n : Fin 65536) (j : Fin 1024) : EReal :=
  Cost.cost ((m ((c : Thread nD τ).loc main_arg0) : Vec Ideal S65536 .f32) (ix1 n))
    ((m ((c : Thread nD τ).loc main_arg2) : Vec Ideal S65536 .f32) (ix1 n))
    ((m ((c : Thread nD τ).loc main_arg1) : Vec Ideal S1024 .f32) (ix1 j))
    ((m ((c : Thread nD τ).loc main_arg3) : Vec Ideal S1024 .f32) (ix1 j))

theorem blockCost_eq (b : Fin 1024) :
    blockCost (iblk m c 0 t) (iblk m c 1 t) (iblk m c 2 t) (iblk m c 3 t) (iblk m c 4 t) b = costAt m c (place t b) := by
  funext j
  rw [blockCost, iblk0, iblk1, iblk2, iblk3, iblk4, Cost.kernelCost_eq, costAt]

/-! ## What is written back -/

/-- Distinct points write distinct blocks. -/
theorem disjoint6 : ∀ t t' : Fin cfg0.N, (cfg0.win 6).flush t = true → (cfg0.win 6).flush t' = true → t ≠ t' →
    Disjoint ((cfg0.win 6).blk t).view.set ((cfg0.win 6).blk t').view.set := fun t t' _ _ hne =>
  (cfg0.win 6).disjoint_blk fun h => hne (Fin.ext ((at6 t).2.symm.trans ((congrFun h 1).trans (at6 t').2)))

theorem disjoint7 : ∀ t t' : Fin cfg0.N, (cfg0.win 7).flush t = true → (cfg0.win 7).flush t' = true → t ≠ t' →
    Disjoint ((cfg0.win 7).blk t).view.set ((cfg0.win 7).blk t').view.set := fun t t' _ _ hne =>
  (cfg0.win 7).disjoint_blk fun h => hne (Fin.ext ((at7 t).2.symm.trans ((congrFun h 1).trans (at7 t').2)))

theorem emb6 (b : Fin 1024) : ((cfg0.win 6).blk t).view.emb (ix2 (n0 := 1) (n1 := 1024) 0 b) = ix2 (n0 := 1) (n1 := 65536) 0 (place t b) := by
  funext a
  apply Fin.ext
  fin_cases a
  · show win0_6.index t 0 * 1 + 1 * 0 = 0
    rw [(at6 t).1]
  · show win0_6.index t 1 * 1024 + 1 * b.val = 1024 * t.val + b.val
    rw [(at6 t).2]; omega

theorem emb7 (b : Fin 1024) : ((cfg0.win 7).blk t).view.emb (ix2 (n0 := 1) (n1 := 1024) 0 b) = ix2 (n0 := 1) (n1 := 65536) 0 (place t b) := by
  funext a
  apply Fin.ext
  fin_cases a
  · show win0_7.index t 0 * 1 + 1 * 0 = 0
    rw [(at7 t).1]
  · show win0_7.index t 1 * 1024 + 1 * b.val = 1024 * t.val + b.val
    rw [(at7 t).2]; omega

theorem arr6 (b : Fin 1024) : ((dats m 0 c).arrAt 6 cfg0.N : Vec Ideal S1x65536 .i32) (ix2 0 (place t b))
    = out0_6 (iblk m c 0 t) (iblk m c 1 t) (iblk m c 2 t) (iblk m c 3 t) (iblk m c 4 t) (iblk m c 5 t) (ix2 0 b) := by
  have h := (dats m 0 c).arrAt_emb_eq_flushed 6 disjoint6 t (flush0_6 t) (ix2 (n0 := 1) (n1 := 1024) 0 b)
  rw [emb6] at h
  refine h.trans ?_
  show (dats m 0 c).after 6 t (ix2 0 b) = _
  rw [after0_6]

theorem arr7 (b : Fin 1024) : ((dats m 0 c).arrAt 7 cfg0.N : Vec Ideal S1x65536 .f32) (ix2 0 (place t b))
    = out0_7 (iblk m c 0 t) (iblk m c 1 t) (iblk m c 2 t) (iblk m c 3 t) (iblk m c 4 t) (iblk m c 5 t) (ix2 0 b) := by
  have h := (dats m 0 c).arrAt_emb_eq_flushed 7 disjoint7 t (flush0_7 t) (ix2 (n0 := 1) (n1 := 1024) 0 b)
  rw [emb7] at h
  refine h.trans ?_
  show (dats m 0 c).after 7 t (ix2 0 b) = _
  rw [after0_7]

end

end Cert.Proof.KernelArray

end
-- ==== Proof.RefRun.lean ====
/-
  What the reference's run leaves: its two results as functions of its four arguments, the whole arrays at once, and
  that it ends with every counter at zero.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Proof.RefRun

open Cert.ReferenceIdeal Cert.ReferenceIdeal.Gen
open Idealize.ShloMosaic Idealize.ShloMosaic.TcCoe Idealize.SL.Sem

/-- The cost of every detection with every camera, `(65536, 1024)`. -/
def costs (dd dt : FVec Ideal S65536 .f32) (cd ct : FVec Ideal S1024 .f32) : FVec Ideal S65536x1024 .f32 :=
  have depth := subf (broadcastInDim S65536x1024 ![0, 1] bcast_S65536x1_S65536x1024_0_1 (broadcastInDim S65536x1 ![0] bcast_S65536_S65536x1_0 dd))
    (broadcastInDim S65536x1024 ![0, 1] bcast_S1x1024_S65536x1024_0_1 (broadcastInDim S1x1024 ![1] bcast_S1024_S1x1024_1 cd))
  have time := subf (broadcastInDim S65536x1024 ![0, 1] bcast_S65536x1_S65536x1024_0_1 (broadcastInDim S65536x1 ![0] bcast_S65536_S65536x1_0 dt))
    (broadcastInDim S65536x1024 ![0, 1] bcast_S1x1024_S65536x1024_0_1 (broadcastInDim S1x1024 ![1] bcast_S1024_S1x1024_1 ct))
  have dim := subf (broadcastInDim S1x1024 ![] bcast_S_S1x1024 (constant (F := Ideal) S_ .f32 0x3F800000#32))
    (Host.exp (mulf (broadcastInDim S1x1024 ![] bcast_S_S1x1024 (constant (F := Ideal) S_ .f32 0xBD3851EC#32))
      (broadcastInDim S1x1024 ![1] bcast_S1024_S1x1024_1 cd)))
  addf
    (addf (mulf (broadcastInDim S65536x1024 ![] bcast_S_S65536x1024 (constant (F := Ideal) S_ .f32 0x3F800000#32)) (mulf depth depth))
      (broadcastInDim S65536x1024 ![0, 1] bcast_S1x1024_S65536x1024_0_1
        (mulf (broadcastInDim S1x1024 ![] bcast_S_S1x1024 (constant (F := Ideal) S_ .f32 0x3F000000#32)) dim)))
    (mulf (broadcastInDim S65536x1024 ![] bcast_S_S65536x1024 (constant (F := Ideal) S_ .f32 0x3E99999A#32))
      (Host.divf (mulf time time) (broadcastInDim S65536x1024 ![] bcast_S_S65536x1024 (constant (F := Ideal) S_ .f32 0x45610000#32))))

/-- The least cost of each detection. -/
def best (C : FVec Ideal S65536x1024 .f32) : FVec Ideal S65536 .f32 :=
  Host.reduce FloatOps.minimumf C (constant (F := Ideal) S_ .f32 0x7F800000#32) reducesTo_S65536x1024_S65536_d1 h_S_

/-- The camera the reference's pair reduction ends on. -/
def winner (C : FVec Ideal S65536x1024 .f32) : IVec S65536 32 :=
  fun j => (Host.argReduce (F := Ideal) reducer_argmin_f32_i32 C (iotaInDim S65536x1024 32 1) (constant (F := Ideal) S_ .f32 0x7F800000#32)
    (constantI S_ 32 0#32) reducesTo_S65536x1024_S65536_d1 h_S_ j).2

/-- `winner` as the reduction it is. -/
theorem winner_eq (C : FVec Ideal S65536x1024 .f32) : winner C
    = fun j => (Host.argReduce (F := Ideal) reducer_argmin_f32_i32 C (iotaInDim S65536x1024 32 1) (constant (F := Ideal) S_ .f32 0x7F800000#32)
      (constantI S_ 32 0#32) reducesTo_S65536x1024_S65536_d1 h_S_ j).2 := rfl

/-- Which detections have a camera near enough. -/
def near (B : FVec Ideal S65536 .f32) : IVec S65536 1 :=
  cmpf .olt B (broadcastInDim S65536 ![] bcast_S_S65536 (constant (F := Ideal) S_ .f32 0x441C4000#32))

/-- The first result: the winner where a camera is near enough, `-1` elsewhere. -/
def asn (C : FVec Ideal S65536x1024 .f32) : IVec S65536 32 :=
  select (near (best C)) (winner C) (broadcastInDim S65536 ![] bcast_S_S65536 (constantI S_ 32 4294967295#32))

/-- The second result: `1 / (1 + sqrt best)` where a camera is near enough, zero elsewhere. -/
def weight (B : FVec Ideal S65536 .f32) : FVec Ideal S65536 .f32 :=
  select (near B)
    (Host.divf (broadcastInDim S65536 ![] bcast_S_S65536 (constant (F := Ideal) S_ .f32 0x3F800000#32))
      (addf (broadcastInDim S65536 ![] bcast_S_S65536 (constant (F := Ideal) S_ .f32 0x3F800000#32)) (Host.sqrt B)))
    (broadcastInDim S65536 ![] bcast_S_S65536 (constant (F := Ideal) S_ .f32 0x00000000#32))

/-- A typed reference to a buffer of that very type holds the buffer's own contents. -/
theorem of_costs (x : FVec Ideal S65536x1024 .f32) : (.of main_v28 : StableHlo.TRef sig ⟨S65536x1024, .f32⟩).ofBuf (Val := Elt Ideal) x = x := rfl
theorem of_near (x : IVec S65536 1) : (.of main_v32 : StableHlo.TRef sig ⟨S65536, .i1⟩).ofBuf (Val := Elt Ideal) x = x := rfl
theorem of_share (x : FVec Ideal S65536 .f32) : (.of main_v38 : StableHlo.TRef sig ⟨S65536, .f32⟩).ofBuf (Val := Elt Ideal) x = x := rfl
theorem of_none (x : IVec S_ 32) : (.of main_c : StableHlo.TRef sig ⟨S_, .i32⟩).ofBuf (Val := Elt Ideal) x = x := rfl
theorem of_nought (x : FVec Ideal S_ .f32) : (.of main_cst_9 : StableHlo.TRef sig ⟨S_, .f32⟩).ofBuf (Val := Elt Ideal) x = x := rfl
theorem to_asn (x : IVec S65536 32) : (.of main_v33 : StableHlo.TRef sig ⟨S65536, .i32⟩).toBuf (Val := Elt Ideal) x = x := rfl
theorem to_weight (x : FVec Ideal S65536 .f32) : (.of main_v39 : StableHlo.TRef sig ⟨S65536, .f32⟩).toBuf (Val := Elt Ideal) x = x := rfl

/-- The run leaves the arguments as they were. -/
theorem unchanged (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run

/-- The run ends with the arguments as they were and every counter at zero. -/
theorem quiescent : Cert.quiescent_ReferenceIdeal := by
  intro m g _
  run_from unchanged m g
  exact sem_eq_zero_of_no_sems rfl r.2

/-- The run's two results. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v33)
          = asn (costs (m ((c.tc : Thread nD τ).loc main_arg0)) (m ((c.tc : Thread nD τ).loc main_arg2)) (m ((c.tc : Thread nD τ).loc main_arg1)) (m ((c.tc : Thread nD τ).loc main_arg3)))
      ∧ r.2.mem ((c.tc : Thread nD τ).loc main_v39)
          = weight (best (costs (m ((c.tc : Thread nD τ).loc main_arg0)) (m ((c.tc : Thread nD τ).loc main_arg2)) (m ((c.tc : Thread nD τ).loc main_arg1)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  · simp only [StableHlo.TRef.ofBuf_toBuf]
    rw [of_costs, of_near, of_none, to_asn]
    rfl
  · simp only [StableHlo.TRef.ofBuf_toBuf]
    rw [of_near, of_share, of_nought, to_weight]
    rfl

end Cert.Proof.RefRun

end
-- ==== Proof.RefValue.lean ====
/-
  The reference's two results read at one detection: its costs are `Cost.cost`, its minimum the least of them, and the
  camera its pair reduction ends on the first one with that cost.
-/
module

public import proofs.«01_k».proof.Proof.RefRun
public import proofs.«01_k».proof.Proof.Choice
public import proofs.«01_k».proof.Proof.Cost
public import Idealize.ShloMosaic.Lib.ValueIdx
public import Idealize.ShloMosaic.Lib.IdealHost
public import Idealize.ShloMosaic.PureOps.Reduce
public import Idealize.ShloMosaic.PureOps.Ideal.Laws
public import Idealize.ShloMosaic.Lib.Pipeline.Value

@[expose] public section

noncomputable section

namespace Cert.Proof.RefValue

open Cert.ReferenceIdeal Cert.ReferenceIdeal.Gen Cert.Proof.RefRun Cert.Proof.Choice
open Idealize.ShloMosaic Idealize.ShloMosaic.ValueIdx

/-! ## Two reductions, over any shapes -/

section
variable {s t u : Shape} {axes : List (Fin s.rank)} (h : s.ReducesTo axes t) (hu : 0 < u.numel) (j : t.Idx) {k : Fin 1024 → s.Idx}

/-- A minimum from +∞ over the indices `k` that reduce to `j` is their infimum. -/
theorem reduce_min (hk : ∀ i, h.drop i = j ↔ ∃ a, i = k a) (x : s.Idx → EReal) (init : u.Idx → EReal)
    (hi : ∀ i, init i = ⊤) : Host.reduce min x init h hu j = ⨅ a, x (k a) := by
  rw [Host.reduce_eq_fold, hi]
  refine le_antisymm (le_iInf fun a => ?_) ?_
  · exact (Finset.fold_min_le _).mpr (Or.inr ⟨k a, Finset.mem_filter.mpr ⟨Finset.mem_univ _, (hk _).mpr ⟨a, rfl⟩⟩, le_refl _⟩)
  · refine (Finset.le_fold_min _).mpr ⟨le_top, fun i hm => ?_⟩
    obtain ⟨a, rfl⟩ := (hk _).mp (Finset.mem_filter.mp hm).2
    exact iInf_le (fun a => x (k a)) a

/-- The pairs a pair reduction folds over. -/
theorem mem_fiber (hk : ∀ i, h.drop i = j ↔ ∃ a, i = k a) (x : s.Idx → EReal) (y : s.Idx → BitVec 32) (p : EReal × BitVec 32) :
    p ∈ Host.argReduceFiber x y h j ↔ ∃ a, p = (x (k a), y (k a)) := by
  rw [Host.argReduceFiber, List.mem_map]
  constructor
  · rintro ⟨n, hn, rfl⟩
    obtain ⟨a, ha⟩ := (hk _).mp (of_decide_eq_true (List.mem_filter.mp hn).2)
    exact ⟨a, by rw [ha]⟩
  · rintro ⟨a, rfl⟩
    refine ⟨s.rowMajor (k a), List.mem_filter.mpr ⟨List.mem_finRange _, decide_eq_true ?_⟩, ?_⟩
    · rw [Equiv.symm_apply_apply]; exact (hk _).mpr ⟨a, rfl⟩
    · rw [Equiv.symm_apply_apply]

/-- A camera's number as a signed word. -/
theorem toInt_camera (j : Fin 1024) : (BitVec.ofNat 32 j).toInt = j := by
  have := j.isLt
  rw [BitVec.toInt_eq_toNat_of_lt] <;> rw [BitVec.toNat_ofNat, Nat.mod_eq_of_lt (by omega)]
  omega

/-- A pair reduction by `pick` from (+∞, 0), the second array numbering the indices `k`: it ends on the first of them with
    the least value. -/
theorem reduce_pick (hk : ∀ i, h.drop i = j ↔ ∃ a, i = k a) (f : Ideal .f32 × BitVec 32 → Ideal .f32 × BitVec 32 → Ideal .f32 × BitVec 32)
    (hf : f = pick) (x : FVec Ideal s .f32) (y : s.Idx → BitVec 32)
    (ix : u.Idx → Ideal .f32) (iy : u.Idx → BitVec 32) (hix : ∀ i, ix i = (⊤ : EReal)) (hiy : ∀ i, iy i = 0#32)
    (hy : ∀ a, y (k a) = BitVec.ofNat 32 a) {b : Fin 1024} (hb : First (fun a => x (k a)) (⨅ a, x (k a) : EReal) b)
    (hm : (⨅ a, x (k a) : EReal) < ⊤) : (Host.argReduce f x y ix iy h hu j).2 = BitVec.ofNat 32 b := by
  rw [Ideal.argReduce_eq_reduce2, Host.reduce2_eq_foldl_fiber, hix, hiy, hf]
  have hmem := mem_fiber h j hk x y
  generalize Host.argReduceFiber x y h j = L at hmem
  obtain ⟨h1, h2⟩ := foldl_pick L
  have hlow : (L.foldl pick (⊤, 0#32)).1 ≤ x (k b) := h1 _ ((hmem _).mpr ⟨b, rfl⟩)
  have hbm : x (k b) = (⨅ a, x (k a) : EReal) := hb.1
  obtain ⟨h3, h4⟩ := h2 (hlow.trans_lt (hbm.trans_lt hm))
  obtain ⟨i, hi⟩ := (hmem _).mp h3
  have h4' := h4 _ ((hmem _).mpr ⟨b, rfl⟩)
  rw [hi] at hlow h4'
  have hib : x (k i) = (⨅ a, x (k a) : EReal) := le_antisymm (hlow.trans hbm.le) (iInf_le (fun a => (x (k a) : EReal)) i)
  have hle : (y (k i)).toInt ≤ (y (k b)).toInt := h4' (hbm.trans hib.symm)
  rw [hy, hy, toInt_camera, toInt_camera] at hle
  have e : i = b := le_antisymm (by exact_mod_cast hle) (hb.2 i hib)
  exact (congrArg Prod.snd hi).trans ((hy i).trans (by rw [e]))

end

/-! ## The costs -/

/-- A column of detections spread over the cameras. -/
theorem detection_apply (x : FVec Ideal S65536 .f32) (n : Fin 65536) (j : Fin 1024) :
    broadcastInDim S65536x1024 ![0, 1] bcast_S65536x1_S65536x1024_0_1 (broadcastInDim S65536x1 ![0] bcast_S65536_S65536x1_0 x) (ix2 n j)
      = x (ix1 n) := by
  rw [broadcastInDim_apply _ _ _ (ix2 n j) (ix2 n 0) (by intro a; fin_cases a <;> rfl),
    broadcastInDim_apply _ _ _ (ix2 n 0) (ix1 n) (by intro a; fin_cases a; rfl)]

/-- A row over the cameras spread over the detections. -/
theorem row_apply (x : FVec Ideal S1x1024 .f32) (n : Fin 65536) (j : Fin 1024) :
    broadcastInDim S65536x1024 ![0, 1] bcast_S1x1024_S65536x1024_0_1 x (ix2 n j) = x (ix2 0 j) :=
  broadcastInDim_apply _ _ _ (ix2 n j) (ix2 0 j) (by intro a; fin_cases a <;> rfl)

/-- An array over the cameras as a row. -/
theorem camera_apply (x : FVec Ideal S1024 .f32) (j : Fin 1024) :
    broadcastInDim S1x1024 ![1] bcast_S1024_S1x1024_1 x (ix2 0 j) = x (ix1 j) :=
  broadcastInDim_apply _ _ _ (ix2 0 j) (ix1 j) (by intro a; fin_cases a; rfl)

theorem costs_apply (dd dt : FVec Ideal S65536 .f32) (cd ct : FVec Ideal S1024 .f32) (n : Fin 65536) (j : Fin 1024) :
    costs dd dt cd ct (ix2 n j) = Cost.cost (dd (ix1 n)) (dt (ix1 n)) (cd (ix1 j)) (ct (ix1 j)) := by
  have he : ∀ x : FVec Ideal S1x1024 .f32, Host.exp x (ix2 0 j) = Ideal.exp (x (ix2 0 j)) := fun _ => rfl
  simp only [costs, addf_apply, mulf_apply, subf_apply, hostDivf_apply]
  rw [detection_apply dd, detection_apply dt, row_apply (broadcastInDim _ _ _ cd), row_apply (broadcastInDim _ _ _ ct), row_apply,
    camera_apply cd, camera_apply ct, mulf_apply, subf_apply, he, mulf_apply, camera_apply cd]
  rw [broadcastInDim_scalar_apply, broadcastInDim_scalar_apply, broadcastInDim_scalar_apply, broadcastInDim_scalar_apply,
    broadcastInDim_scalar_apply, broadcastInDim_scalar_apply]
  rfl

/-! ## The least cost -/

/-- The indices that reduce to detection `n` are its pairs with the cameras. -/
theorem drop_eq (i : S65536x1024.Idx) (n : Fin 65536) :
    reducesTo_S65536x1024_S65536_d1.drop i = ix1 n ↔ ∃ j : Fin 1024, i = ix2 n j := by
  have h : (reducesTo_S65536x1024_S65536_d1.drop i 0 : ℕ) = (i 0 : ℕ) :=
    Shape.ReducesTo.drop_apply_val_of_eq reducesTo_S65536x1024_S65536_d1 i 0 0
  constructor
  · intro e
    rw [e] at h
    exact ⟨i 1, (eq_ix2 i).trans (congrArg (fun k => ix2 k (i 1)) (Fin.ext h.symm))⟩
  · rintro ⟨j, rfl⟩
    funext a
    fin_cases a
    exact Fin.ext h

theorem best_apply (C : FVec Ideal S65536x1024 .f32) (n : Fin 65536) : best C (ix1 n) = ⨅ j, C (ix2 n j) := by
  exact reduce_min reducesTo_S65536x1024_S65536_d1 h_S_ (ix1 n) (k := ix2 n) (fun i => drop_eq i n) C _ (fun _ => Cost.word_top)

/-! ## The camera that has it -/

/-- The reference's comparison of two pairs, on the extended reals. -/
theorem reducer_eq : reducer_argmin_f32_i32 (F := Ideal) = pick := by
  funext a b
  have hw : ∀ p q : BitVec 1, IntOp.ori p q = p ||| q := fun _ _ => rfl
  have ha : ∀ p q : BitVec 1, IntOp.andi p q = p &&& q := fun _ _ => rfl
  have hs : IntOp.cmpi .slt a.2 b.2 = BitVec.ofBool (decide (a.2.toInt < b.2.toInt)) := rfl
  have hor : ∀ p q : Bool, BitVec.ofBool p ||| BitVec.ofBool q = BitVec.ofBool (p || q) := by decide
  have hand : ∀ p q : Bool, BitVec.ofBool p &&& BitVec.ofBool q = BitVec.ofBool (p && q) := by decide
  have hsel : ∀ (p : Bool) {α : Type} (x y : α), Scalar.select (BitVec.ofBool p) x y = if p then x else y := by
    intro p α x y; cases p
    · exact select_zero x y
    · exact select_one x y
  simp only [reducer_argmin_f32_i32, Ideal.cmpf_def, Ideal.cmp, hw, ha, hs, hor, hand, hsel, pick]
  simp

theorem winner_apply (C : FVec Ideal S65536x1024 .f32) (n : Fin 65536) {j : Fin 1024}
    (hj : First (fun i => C (ix2 n i)) (⨅ i, C (ix2 n i)) j) (hm : ⨅ i, C (ix2 n i) < ⊤) :
    winner C (ix1 n) = BitVec.ofNat 32 j := by
  rw [winner_eq]
  exact reduce_pick reducesTo_S65536x1024_S65536_d1 h_S_ (ix1 n) (k := ix2 n) (fun i => drop_eq i n) _ reducer_eq C _ _ _
    (fun _ => Cost.word_top) (fun _ => rfl) (fun _ => rfl) hj hm

/-! ## The two results -/

theorem near_apply {α : Type} (B : FVec Ideal S65536 .f32) (n : Fin 65536) (y z : α) :
    Scalar.select (near B (ix1 n)) y z = if B (ix1 n) < ((625 : ℝ) : EReal) then y else z := by
  have h : ∀ i, constant (F := Ideal) S_ .f32 0x441C4000#32 i = ((625 : ℝ) : EReal) := fun _ => Cost.word_625
  rw [near, cmpf_apply, broadcastInDim_scalar_apply, h, Ideal.cmpf_def, Ideal.cmp]
  by_cases hp : B (ix1 n) < ((625 : ℝ) : EReal)
  · rw [if_pos hp, decide_eq_true hp]; exact select_one y z
  · rw [if_neg hp, decide_eq_false hp]; exact select_zero y z

theorem asn_apply (C : FVec Ideal S65536x1024 .f32) (n : Fin 65536) {j : Fin 1024}
    (hj : First (fun i => C (ix2 n i)) (⨅ i, C (ix2 n i)) j) :
    asn C (ix1 n) = if ⨅ i, C (ix2 n i) < ((625 : ℝ) : EReal) then BitVec.ofNat 32 j else 4294967295#32 := by
  rw [asn, select_apply, near_apply, best_apply]
  by_cases hm : ⨅ i, C (ix2 n i) < ((625 : ℝ) : EReal)
  · rw [if_pos hm, if_pos hm, winner_apply C n hj (hm.trans (EReal.coe_lt_top _))]
  · rw [if_neg hm, if_neg hm, broadcastInDim_scalar_apply]; rfl

theorem weight_apply (C : FVec Ideal S65536x1024 .f32) (n : Fin 65536) :
    weight (best C) (ix1 n) = if ⨅ i, C (ix2 n i) < ((625 : ℝ) : EReal) then
        Ideal.div (Ideal.ofBits .f32 0x3F800000#32) (Ideal.ofBits .f32 0x3F800000#32 + Ideal.sqrt (⨅ i, C (ix2 n i)))
      else Ideal.ofBits .f32 0x00000000#32 := by
  have hs : ∀ x : FVec Ideal S65536 .f32, Host.sqrt x (ix1 n) = Ideal.sqrt (x (ix1 n)) := fun _ => rfl
  rw [weight, select_apply, near_apply, hostDivf_apply, addf_apply, hs, best_apply]
  simp only [broadcastInDim_scalar_apply]
  exact if_congr Iff.rfl rfl rfl

end Cert.Proof.RefValue

end
-- ==== Proof.Equation.lean ====
/-
  The equation: the kernel's two result arrays, detection by detection, are the reference's assignment and weight of
  the same costs.
-/
module

public import proofs.«01_k».proof.Proof.KernelArray
public import proofs.«01_k».proof.Proof.RefValue

@[expose] public section

noncomputable section

namespace Cert.Proof.Equation

open Cert.KernelIdeal Cert.KernelIdeal.Gen
open Idealize.ShloMosaic Idealize.ShloMosaic.TcCoe Idealize.ShloMosaic.ValueIdx Idealize.SL.Sem
open Cert.Proof.Choice Cert.Proof.Block Cert.Proof.KernelArray

variable (m : (ℓ : Loc nD τ sig) → Buf (Elt Ideal) ℓ) (c : Dev nD)

/-- The reference's cost matrix of the kernel's arguments. -/
def costs : FVec Ideal Cert.ReferenceIdeal.S65536x1024 .f32 :=
  RefRun.costs (m ((c : Thread nD τ).loc main_arg0)) (m ((c : Thread nD τ).loc main_arg2))
    (m ((c : Thread nD τ).loc main_arg1)) (m ((c : Thread nD τ).loc main_arg3))

/-- It is the cost of each detection with each camera. -/
theorem costs_apply (n : Fin 65536) (j : Fin 1024) : costs m c (ix2 n j) = costAt m c n j :=
  RefValue.costs_apply _ _ _ _ n j

/-- The kernel's assignments are the reference's. -/
theorem asn_eq (n : Fin 65536) : ((dats m 0 c).arrAt 6 cfg0.N : Vec Ideal S1x65536 .i32) (ix2 0 n) = RefRun.asn (costs m c) (ix1 n) := by
  obtain ⟨t, b, rfl⟩ := exists_place n
  obtain ⟨j, hj⟩ := exists_first (costAt m c (place t b))
  have hr : (fun i => costs m c (ix2 (place t b) i)) = costAt m c (place t b) := funext (costs_apply m c _)
  have hb := blockCost_eq m c t b
  rw [arr6, assigned_apply _ _ _ _ _ _ (fun r => (iblk5 m c t _).trans (by simp [camera])) b j (by rw [hb]; exact hj),
    RefValue.asn_apply (costs m c) (place t b) (j := j) (by rw [hr]; exact hj), hb]
  simp only [costs_apply]

/-- And so are its weights. -/
theorem weight_eq (n : Fin 65536) : ((dats m 0 c).arrAt 7 cfg0.N : Vec Ideal S1x65536 .f32) (ix2 0 n)
    = RefRun.weight (RefRun.best (costs m c)) (ix1 n) := by
  obtain ⟨t, b, rfl⟩ := exists_place n
  rw [arr7, weight_apply, RefValue.weight_apply, blockCost_eq]
  simp only [costs_apply]

/-! ## The host's last two lines: each row laid out as an array -/

theorem v15_eq : Pipeline.afterTail₀ cfgs (dats m) 0 (V0 m) [hostOps1] c main_v15
    = shapeCast S65536 ((dats m 0 c).arrAt 6 cfg0.N : Vec Ideal S1x65536 .i32) shapeCasts_S1x65536_S65536 := by
  unfold Pipeline.afterTail₀
  show StableHlo.after hostOps1 _ _ = _
  unfold hostOps1
  after_results
  exact congrArg (fun x : Vec Ideal S1x65536 .i32 => shapeCast S65536 x shapeCasts_S1x65536_S65536)
    (Pipeline.withArrays_arr spec0 launch0.win.arr_inj c _ _ 6)

theorem v16_eq : Pipeline.afterTail₀ cfgs (dats m) 0 (V0 m) [hostOps1] c main_v16
    = shapeCast S65536 ((dats m 0 c).arrAt 7 cfg0.N : Vec Ideal S1x65536 .f32) shapeCasts_S1x65536_S65536 := by
  unfold Pipeline.afterTail₀
  show StableHlo.after hostOps1 _ _ = _
  unfold hostOps1
  after_results
  exact congrArg (fun x : Vec Ideal S1x65536 .f32 => shapeCast S65536 x shapeCasts_S1x65536_S65536)
    (Pipeline.withArrays_arr spec0 launch0.win.arr_inj c _ _ 7)

theorem out_asn : Pipeline.afterTail₀ cfgs (dats m) 0 (V0 m) [hostOps1] c main_v15 = RefRun.asn (costs m c) := by
  refine (v15_eq m c).trans (funext fun i => ?_)
  rw [eq_ix1 i]
  exact (Entry.of_row _ (i 0)).trans (asn_eq m c (i 0))

theorem out_weight : Pipeline.afterTail₀ cfgs (dats m) 0 (V0 m) [hostOps1] c main_v16 = RefRun.weight (RefRun.best (costs m c)) := by
  refine (v16_eq m c).trans (funext fun i => ?_)
  rw [eq_ix1 i]
  exact (Entry.of_row _ (i 0)).trans (weight_eq m c (i 0))

/-- Every run of the kernel ends with the reference's values of its arguments, which it leaves as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v15) = RefRun.asn (costs m c)
      ∧ r.2.mem ((c.tc : Thread nD τ).loc main_v16) = RefRun.weight (RefRun.best (costs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v15 (Pipeline.mem_restRefs_of main_v15 (by decide) (by decide))).trans (out_asn m c),
      ((h.1 c).2 main_v16 (Pipeline.mem_restRefs_of main_v16 (by decide) (by decide))).trans (out_weight m c), h.2 c⟩)
    (θ_run_and (run_main m ρ) (Cert.KernelIdeal.Gen.unchanged m ρ))

end Cert.Proof.Equation

end
-- ==== Proof.lean ====
/-
  The certificate: the three programs' frames, the named constant, and the equation of the kernel's two results with the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The printed scale is the word of the named real, and nothing else differs. -/
theorem preserves : Cert.preserves_Kernel_KernelIdeal :=
  IdealRules.named_const.statement Cert.KernelIdeal.κ "ts" .f32 0x3C159095#32 ((Real.sqrt (1006633 / 12079595520) : ℝ) : EReal) rfl

/-- The kernel and the reference end with equal results on equal arguments. -/
theorem algebraic : Cert.algebraic_KernelIdeal_ReferenceIdeal := by
  intro m g m' g' hpre hagree
  refine ⟨fun c => RefRun.asn (Equation.costs m c), fun c => RefRun.weight (RefRun.best (Equation.costs m c)), Equation.run m g, ?_⟩
  refine (θ_run Cert.ReferenceIdeal.defs _ _).mono (fun r h c => ?_) (RefRun.run m' g')
  obtain ⟨h0, h1, hk⟩ := h c
  obtain ⟨e0, e1, e2, e3⟩ := hagree c
  rw [e0, e1, e2, e3] at h0 h1
  exact ⟨h0, h1, hk⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, RefRun.quiescent, preserves, algebraic⟩

end Cert.Proof

end
